-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50000x256 : Shape := ⟨2, ![50000, 256]⟩
abbrev S50000 : Shape := ⟨1, ![50000]⟩
abbrev S50000x16 : Shape := ⟨2, ![50000, 16]⟩
abbrev S16 : Shape := ⟨1, ![16]⟩
abbrev S256x256 : Shape := ⟨2, ![256, 256]⟩
abbrev S256 : Shape := ⟨1, ![256]⟩
abbrev S256x128 : Shape := ⟨2, ![256, 128]⟩
abbrev S128 : Shape := ⟨1, ![128]⟩
abbrev S5x1x10000 : Shape := ⟨3, ![5, 1, 10000]⟩
abbrev S1x16 : Shape := ⟨2, ![1, 16]⟩
abbrev S1x256 : Shape := ⟨2, ![1, 256]⟩
abbrev S1x128 : Shape := ⟨2, ![1, 128]⟩
abbrev S128x128 : Shape := ⟨2, ![128, 128]⟩
abbrev S10000x256 : Shape := ⟨2, ![10000, 256]⟩
abbrev S1x1x10000 : Shape := ⟨3, ![1, 1, 10000]⟩
abbrev S10000x16 : Shape := ⟨2, ![10000, 16]⟩
abbrev S128x512 : Shape := ⟨2, ![128, 512]⟩
abbrev S10000 : Shape := ⟨1, ![10000]⟩
abbrev S10000x1 : Shape := ⟨2, ![10000, 1]⟩
abbrev S1x10000 : Shape := ⟨2, ![1, 10000]⟩
abbrev S128x10000 : Shape := ⟨2, ![128, 10000]⟩
abbrev S128x256 : Shape := ⟨2, ![128, 256]⟩
abbrev S128x1 : Shape := ⟨2, ![128, 1]⟩

abbrev nBuf : Space → Nat
  | .hbm => 16
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S50000x16, .f32⟩
  | .hbm, ⟨3, _⟩ => ⟨S16, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S5x1x10000, .i32⟩
  | .hbm, ⟨11, _⟩ => ⟨S1x16, .f32⟩
  | .hbm, ⟨12, _⟩ => ⟨S1x256, .f32⟩
  | .hbm, ⟨13, _⟩ => ⟨S1x256, .f32⟩
  | .hbm, ⟨14, _⟩ => ⟨S1x128, .f32⟩
  | .hbm, ⟨15, _⟩ => ⟨S128x128, .f32⟩
  | .local _ .vmem, ⟨0, _⟩ => ⟨S10000x256, .f32⟩
  | .local _ .vmem, ⟨1, _⟩ => ⟨S10000x256, .f32⟩
  | .local _ .vmem, ⟨2, _⟩ => ⟨S1x1x10000, .i32⟩
  | .local _ .vmem, ⟨3, _⟩ => ⟨S1x1x10000, .i32⟩
  | .local _ .vmem, ⟨4, _⟩ => ⟨S10000x16, .f32⟩
  | .local _ .vmem, ⟨5, _⟩ => ⟨S10000x16, .f32⟩
  | .local _ .vmem, ⟨6, _⟩ => ⟨S1x16, .f32⟩
  | .local _ .vmem, ⟨7, _⟩ => ⟨S256x256, .f32⟩
  | .local _ .vmem, ⟨8, _⟩ => ⟨S1x256, .f32⟩
  | .local _ .vmem, ⟨9, _⟩ => ⟨S256x256, .f32⟩
  | .local _ .vmem, ⟨10, _⟩ => ⟨S1x256, .f32⟩
  | .local _ .vmem, ⟨11, _⟩ => ⟨S256x128, .f32⟩
  | .local _ .vmem, ⟨12, _⟩ => ⟨S1x128, .f32⟩
  | .local _ .vmem, ⟨13, _⟩ => ⟨S128x128, .f32⟩
  | .local _ .vmem, ⟨14, _⟩ => ⟨S128x512, .f32⟩
  | .local _ .vmem, ⟨15, _⟩ => ⟨S128x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v55 : BitVec 1 := Scalar.cmpi .eq arg0 c4_i32
  let v56 : BitVec 32 := Scalar.extui v55
  let c0_i32_30 : BitVec 32 := 0#32
  let v57 : BitVec 1 := Scalar.cmpi .ne v56 c0_i32_30
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x10000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S50000x256 : Shape := ⟨2, ![50000, 256]⟩
abbrev S50000 : Shape := ⟨1, ![50000]⟩
abbrev S50000x16 : Shape := ⟨2, ![50000, 16]⟩
abbrev S16 : Shape := ⟨1, ![16]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S_ : Shape := ⟨0, ![]⟩
abbrev S50000x1 : Shape := ⟨2, ![50000, 1]⟩
abbrev S128x256 : Shape := ⟨2, ![128, 256]⟩
abbrev S128x1 : Shape := ⟨2, ![128, 1]⟩
abbrev S128x128 : Shape := ⟨2, ![128, 128]⟩
abbrev S1x128 : Shape := ⟨2, ![1, 128]⟩

abbrev nBuf : Space → Nat
  | .hbm => 61
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S50000x16, .f32⟩
  | .hbm, ⟨3, _⟩ => ⟨S16, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S50000x256, .f32⟩
  | .hbm, ⟨11, _⟩ => ⟨S1x256, .f32⟩
  | .hbm, ⟨12, _⟩ => ⟨S50000x256, .f32⟩
  | .hbm, ⟨13, _⟩ => ⟨S50000x256, .f32⟩
  | .hbm, ⟨14, _⟩ => ⟨S50000x256, .f32⟩
  | .hbm, ⟨15, _⟩ => ⟨S50000x256, .f32⟩
  | .hbm, ⟨16, _⟩ => ⟨S_, .f32⟩
  | .hbm, ⟨17, _⟩ => ⟨S50000x256, .f32⟩
  | .hbm, ⟨18, _⟩ => ⟨S50000x256, .f32⟩
  | .hbm, ⟨19, _⟩ => ⟨S_, .f32⟩
  | .hbm, ⟨20, _⟩ => ⟨S50000x256, .f32⟩
  | .hbm, ⟨21, _⟩ => ⟨S50000x256, .f32⟩
  | .hbm, ⟨22, _⟩ => ⟨S50000x256, .f32⟩
  | .hbm, ⟨23, _⟩ => ⟨S50000x256, .f32⟩
  | .hbm, ⟨24, _⟩ => ⟨S50000, .f32⟩
  | .hbm, ⟨25, _⟩ => ⟨S50000x1, .f32⟩
  | .hbm, ⟨26, _⟩ => ⟨S50000x256, .f32⟩
  | .hbm, ⟨27, _⟩ => ⟨S50000x256, .f32⟩
  | .hbm, ⟨28, _⟩ => ⟨S_, .f32⟩
  | .hbm, ⟨29, _⟩ => ⟨S128x256, .f32⟩
  | .hbm, ⟨30, _⟩ => ⟨S50000x1, .i32⟩
  | .hbm, ⟨31, _⟩ => ⟨S128x256, .f32⟩
  | .hbm, ⟨32, _⟩ => ⟨S_, .f32⟩
  | .hbm, ⟨33, _⟩ => ⟨S128x256, .f32⟩
  | .hbm, ⟨34, _⟩ => ⟨S50000x1, .i32⟩
  | .hbm, ⟨35, _⟩ => ⟨S128x256, .f32⟩
  | .hbm, ⟨36, _⟩ => ⟨S_, .f32⟩
  | .hbm, ⟨37, _⟩ => ⟨S50000, .f32⟩
  | .hbm, ⟨38, _⟩ => ⟨S_, .f32⟩
  | .hbm, ⟨39, _⟩ => ⟨S128, .f32⟩
  | .hbm, ⟨40, _⟩ => ⟨S50000x1, .i32⟩
  | .hbm, ⟨41, _⟩ => ⟨S128, .f32⟩
  | .hbm, ⟨42, _⟩ => ⟨S_, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S128x1, .f32⟩
  | .hbm, ⟨47, _⟩ => ⟨S128x256, .f32⟩
  | .hbm, ⟨48, _⟩ => ⟨S128x256, .f32⟩
  | .hbm, ⟨49, _⟩ => ⟨S128x256, .f32⟩
  | .hbm, ⟨50, _⟩ => ⟨S128x256, .f32⟩
  | .hbm, ⟨51, _⟩ => ⟨S1x256, .f32⟩
  | .hbm, ⟨52, _⟩ => ⟨S128x256, .f32⟩
  | .hbm, ⟨53, _⟩ => ⟨S128x256, .f32⟩
  | .hbm, ⟨54, _⟩ => ⟨S_, .f32⟩
  | .hbm, ⟨55, _⟩ => ⟨S128x256, .f32⟩
  | .hbm, ⟨56, _⟩ => ⟨S128x256, .f32⟩
  | .hbm, ⟨57, _⟩ => ⟨S128x128, .f32⟩
  | .hbm, ⟨58, _⟩ => ⟨S1x128, .f32⟩
  | .hbm, ⟨59, _⟩ => ⟨S128x128, .f32⟩
  | .hbm, ⟨60, _⟩ => ⟨S128x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_call2_cst : Ref sig .tc := ⟨.hbm, 54, rfl⟩
abbrev main_call2_v0 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩

abbrev nD : Nat := 1
abbrev τ : Topo := Topo.v7x

variable {F : FTy → Type} [FloatOps F]
-- ==== Proof.Step.lean ====
/-
  What one grid point of the kernel leaves in its two scratch buffers and in its output, as the stored values of what it read.
-/
module

public import proofs.«01_k».proof.Proof.Gen.KernelIdeal.Frame
public import Idealize.ShloMosaic.Lib.Pipeline.Value

@[expose] public section

set_option maxRecDepth 16384

noncomputable section

namespace Cert.KernelIdeal.Step

open Cert.KernelIdeal Cert.KernelIdeal.Gen Idealize.ShloMosaic Idealize.ShloMosaic.TcCoe Idealize.SL.Sem

variable {F : FTy → Type} [FloatOps F]

/-- The offsets of a whole matrix are zero. -/
theorem hz2 : (![0, 0] : Fin 2 → Nat) = fun _ => 0 := funext fun a => by fin_cases a <;> rfl

/-- The offsets of a whole three-dimensional block are zero. -/
theorem hz3 : (![0, 0, 0] : Fin 3 → Nat) = fun _ => 0 := funext fun a => by fin_cases a <;> rfl

/-- The left half of the wide scratch. -/
abbrev rlo : Rect S128x512 := Rect.unit (s := S128x512) ![0, 0] S128x256.size inb_S128x512_S128x256_0_0

/-- The right half of the wide scratch. -/
abbrev rhi : Rect S128x512 := Rect.unit (s := S128x512) ![0, 256] S128x256.size inb_S128x512_S128x256_0_256

/-- The left half of wide contents. -/
def lo (X : Vec F S128x512 .f32) : Vec F S128x256 .f32 := View.ld X rlo

/-- The right half of wide contents. -/
def hi (X : Vec F S128x512 .f32) : Vec F S128x256 .f32 := View.ld X rhi

/-- A store to the right half, then the earlier ones: the right half is the stored value. -/
theorem hi_canon (p : Vec F S128x256 .f32) (L : List (View.Piece (Elt F) S128x512 .f32)) :
    hi (View.canon ((⟨rhi, p⟩ : View.Piece (Elt F) S128x512 .f32) :: L)) = p := by
  funext x
  exact View.canon_cons_emb (Val := Elt F) (e := .f32) rhi p L x

/-- No entry of the left half lies in the right half. -/
theorem lo_not_mem (x : S128x256.Idx) : rlo.emb x ∉ rhi.set := by
  rw [Rect.mem_set_unit]
  intro h
  have h1 := (h 1).1
  have e : (rlo.emb x 1 : Nat) = 0 + 1 * (x 1).val := rfl
  have hx : (x 1).val < 256 := (x 1).isLt
  have h1' : 256 ≤ (rlo.emb x 1 : Nat) := h1
  omega

/-- No entry of the right half lies in the left half. -/
theorem hi_not_mem (x : S128x256.Idx) : rhi.emb x ∉ rlo.set := by
  rw [Rect.mem_set_unit]
  intro h
  have h1 := (h 1).2
  have e : (rhi.emb x 1 : Nat) = 256 + 1 * (x 1).val := rfl
  have h1' : (rhi.emb x 1 : Nat) < 0 + 256 := h1
  omega

/-- A store to the left half, then one to the right half: the left half is the first stored value. -/
theorem lo_canon (p q : Vec F S128x256 .f32) (L : List (View.Piece (Elt F) S128x512 .f32)) :
    lo (View.canon ((⟨rhi, p⟩ : View.Piece (Elt F) S128x512 .f32) :: (⟨rlo, q⟩ : View.Piece (Elt F) S128x512 .f32) :: L)) = q := by
  funext x
  refine (View.canon_cons_of_not_mem (Val := Elt F) (e := .f32) ⟨rhi, p⟩ _ (lo_not_mem x)).trans ?_
  exact View.canon_cons_emb (Val := Elt F) (e := .f32) rlo q L x

/-- Wide contents from their two halves. -/
def join (p q : Vec F S128x256 .f32) : Vec F S128x512 .f32 :=
  View.canon [(⟨rhi, q⟩ : View.Piece (Elt F) S128x512 .f32), (⟨rlo, p⟩ : View.Piece (Elt F) S128x512 .f32)]

/-- The left half read back after a store of the whole. -/
theorem readCov_lo {κ : Kind} {sp : Space} (v : View sig κ sp S128x512 .f32) (Z : Vec F S128x512 .f32) :
    v.readCov [(⟨Rect.unit (s := S128x512) ![0, 0] S128x512.size inb_S128x512_S128x512_0_0, Z⟩ : View.Piece (Elt F) S128x512 .f32)] rlo.toLoadRect = lo Z := by
  rw [View.readCov_eq_canon', View.canon_unit_zero (S := S128x512) hz2]
  rfl

/-- The right half read back after a store of the whole and one of the left half. -/
theorem readCov_hi {κ : Kind} {sp : Space} (v : View sig κ sp S128x512 .f32) (p : Vec F S128x256 .f32) (Z : Vec F S128x512 .f32) :
    v.readCov [(⟨rlo, p⟩ : View.Piece (Elt F) S128x512 .f32),
      (⟨Rect.unit (s := S128x512) ![0, 0] S128x512.size inb_S128x512_S128x512_0_0, Z⟩ : View.Piece (Elt F) S128x512 .f32)] rhi.toLoadRect = hi Z := by
  rw [View.readCov_eq_canon']
  funext x
  refine (View.canon_cons_of_not_mem (Val := Elt F) (e := .f32) ⟨rlo, p⟩ _ (hi_not_mem x)).trans ?_
  rw [View.canon_unit_zero (S := S128x512) hz2]
  rfl

/-- The whole read back after a store of each half. -/
theorem readCov_join {κ : Kind} {sp : Space} (v : View sig κ sp S128x512 .f32) (p q : Vec F S128x256 .f32) :
    v.readCov [(⟨rhi, q⟩ : View.Piece (Elt F) S128x512 .f32), (⟨rlo, p⟩ : View.Piece (Elt F) S128x512 .f32)]
      (Rect.unit (s := S128x512) ![0, 0] S128x512.size inb_S128x512_S128x512_0_0).toLoadRect = join p q := by
  rw [View.readCov_eq_canon']
  exact View.ld_unit_zero (S := S128x512) hz2 _ (join p q)

/-- The first column of the counts. -/
def col (X : Vec F S128x128 .f32) : Vec F S128x1 .f32 := View.ld X (Rect.unit (s := S128x128) ![0, 0] S128x1.size inb_S128x128_S128x1_0_0)

/-- The first column read back after a store of the counts. -/
theorem readCov_col {κ : Kind} {sp : Space} (v : View sig κ sp S128x128 .f32) (X : Vec F S128x128 .f32) :
    v.readCov [(⟨Rect.unit (s := S128x128) ![0, 0] S128x128.size inb_S128x128_S128x128_0_0, X⟩ : View.Piece (Elt F) S128x128 .f32)]
      (Rect.unit (s := S128x128) ![0, 0] S128x1.size inb_S128x128_S128x1_0_0).toLoadRect = col X := by
  rw [View.readCov_eq_canon', View.canon_unit_zero (S := S128x128) hz2]
  rfl

variable (c : Dev nD) (i : grid0.Coords) (arg1 : Memref sig .tc .vmem S10000x256 .f32) (harg1 : arg1.IsWhole) (arg2 : Memref sig .tc .vmem S1x1x10000 .i32) (harg2 : arg2.IsWhole) (arg3 : Memref sig .tc .vmem S10000x16 .f32) (harg3 : arg3.IsWhole) (arg4 : Memref sig .tc .vmem S1x16 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x128 .f32) (harg13 : arg13.IsWhole)
  (x0 : Vec F S10000x256 .f32) (x1 : Vec F S1x1x10000 .i32) (x2 : Vec F S10000x16 .f32) (x3 : Vec F S1x16 .f32) (x4 : Vec F S256x256 .f32) (x5 : Vec F S1x256 .f32) (x6 : Vec F S256x256 .f32) (x7 : Vec F S1x256 .f32) (x8 : Vec F S256x128 .f32) (x9 : Vec F S1x128 .f32) (xs0 : Vec F S128x512 .f32) (xs1 : Vec F S128x128 .f32)

/-- The middle point's wide scratch, left half: the spectral product added to what was there. -/
theorem lo_B (hc0 : ¬cond0_0 i) (hc1 : ¬cond0_1 i) :
    lo (sout0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1)
      = k0_pay1 (lo xs0) (k0_pay9 x0 x4 x5 x2 x3 x1) := by
  unfold sout0_B_0
  rw [View.read_writes_junk_eq_canon]
  unfold kernelRun0_B
  dsimp only
  sl_unfold_words
  refine (lo_canon _ _ _).trans ?_
  simp only [View.readAt_eq_ld, harg1.read_unread, harg2.read_unread, harg3.read_unread, harg4.read_unread, harg5.read_unread, harg6.read_unread,
    harg7.read_unread, harg8.read_unread, harg9.read_unread, harg10.read_unread, harg12.read_unread, harg13.read_unread,
    View.ld_unit_zero (S := S10000x256) hz2, View.ld_unit_zero (S := S1x1x10000) hz3, View.ld_unit_zero (S := S10000x16) hz2,
    View.ld_unit_zero (S := S1x16) hz2, View.ld_unit_zero (S := S256x256) hz2, View.ld_unit_zero (S := S1x256) hz2,
    View.ld_unit_zero (S := S256x128) hz2, View.ld_unit_zero (S := S1x128) hz2, View.ld_unit_zero (S := S128x128) hz2]
  rfl

/-- The middle point's wide scratch, right half: the plain product added to what was there. -/
theorem hi_B (hc0 : ¬cond0_0 i) (hc1 : ¬cond0_1 i) :
    hi (sout0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1)
      = k0_pay2 (k0_pay7 x0 x4 x5) (k0_pay8 x1) (hi xs0) := by
  unfold sout0_B_0
  rw [View.read_writes_junk_eq_canon]
  unfold kernelRun0_B
  dsimp only
  sl_unfold_words
  refine (hi_canon _ _).trans ?_
  simp only [View.readAt_eq_ld, harg1.read_unread, harg2.read_unread, harg3.read_unread, harg4.read_unread, harg5.read_unread, harg6.read_unread,
    harg7.read_unread, harg8.read_unread, harg9.read_unread, harg10.read_unread, harg12.read_unread, harg13.read_unread,
    View.ld_unit_zero (S := S10000x256) hz2, View.ld_unit_zero (S := S1x1x10000) hz3, View.ld_unit_zero (S := S10000x16) hz2,
    View.ld_unit_zero (S := S1x16) hz2, View.ld_unit_zero (S := S256x256) hz2, View.ld_unit_zero (S := S1x256) hz2,
    View.ld_unit_zero (S := S256x128) hz2, View.ld_unit_zero (S := S1x128) hz2, View.ld_unit_zero (S := S128x128) hz2]
  rfl

/-- The middle point's counts: the block's counts added to what was there. -/
theorem cnt_B (hc0 : ¬cond0_0 i) (hc1 : ¬cond0_1 i) :
    sout0_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1
      = k0_pay3 (k0_pay8 x1) xs1 := by
  unfold sout0_B_1
  rw [View.read_writes_junk_eq_canon]
  unfold kernelRun0_B
  dsimp only
  sl_unfold_words
  refine (View.canon_cons_unit_zero (S := S128x128) hz2 _ _ _).trans ?_
  simp only [View.readAt_eq_ld, harg1.read_unread, harg2.read_unread, harg3.read_unread, harg4.read_unread, harg5.read_unread, harg6.read_unread,
    harg7.read_unread, harg8.read_unread, harg9.read_unread, harg10.read_unread, harg12.read_unread, harg13.read_unread,
    View.ld_unit_zero (S := S10000x256) hz2, View.ld_unit_zero (S := S1x1x10000) hz3, View.ld_unit_zero (S := S10000x16) hz2,
    View.ld_unit_zero (S := S1x16) hz2, View.ld_unit_zero (S := S256x256) hz2, View.ld_unit_zero (S := S1x256) hz2,
    View.ld_unit_zero (S := S256x128) hz2, View.ld_unit_zero (S := S1x128) hz2, View.ld_unit_zero (S := S128x128) hz2]

/-- The first point's wide scratch, left half: the spectral product added to what was there. -/
theorem lo_A (hc0 : cond0_0 i) (hc1 : ¬cond0_1 i) :
    lo (sout0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)
      = k0_pay1 (lo k0_pay5) (k0_pay9 x0 x4 x5 x2 x3 x1) := by
  unfold sout0_A_0
  rw [View.read_writes_junk_eq_canon]
  unfold kernelRun0_A
  dsimp only
  sl_unfold_words
  refine (lo_canon _ _ _).trans ?_
  simp only [View.readAt_eq_ld, harg1.read_unread, harg2.read_unread, harg3.read_unread, harg4.read_unread, harg5.read_unread, harg6.read_unread,
    harg7.read_unread, harg8.read_unread, harg9.read_unread, harg10.read_unread, harg12.read_unread, harg13.read_unread,
    View.ld_unit_zero (S := S10000x256) hz2, View.ld_unit_zero (S := S1x1x10000) hz3, View.ld_unit_zero (S := S10000x16) hz2,
    View.ld_unit_zero (S := S1x16) hz2, View.ld_unit_zero (S := S256x256) hz2, View.ld_unit_zero (S := S1x256) hz2,
    View.ld_unit_zero (S := S256x128) hz2, View.ld_unit_zero (S := S1x128) hz2, View.ld_unit_zero (S := S128x128) hz2]
  exact congrArg (fun v => k0_pay1 v _) (readCov_lo _ _)

/-- The first point's wide scratch, right half: the plain product added to what was there. -/
theorem hi_A (hc0 : cond0_0 i) (hc1 : ¬cond0_1 i) :
    hi (sout0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)
      = k0_pay2 (k0_pay7 x0 x4 x5) (k0_pay8 x1) (hi k0_pay5) := by
  unfold sout0_A_0
  rw [View.read_writes_junk_eq_canon]
  unfold kernelRun0_A
  dsimp only
  sl_unfold_words
  refine (hi_canon _ _).trans ?_
  simp only [View.readAt_eq_ld, harg1.read_unread, harg2.read_unread, harg3.read_unread, harg4.read_unread, harg5.read_unread, harg6.read_unread,
    harg7.read_unread, harg8.read_unread, harg9.read_unread, harg10.read_unread, harg12.read_unread, harg13.read_unread,
    View.ld_unit_zero (S := S10000x256) hz2, View.ld_unit_zero (S := S1x1x10000) hz3, View.ld_unit_zero (S := S10000x16) hz2,
    View.ld_unit_zero (S := S1x16) hz2, View.ld_unit_zero (S := S256x256) hz2, View.ld_unit_zero (S := S1x256) hz2,
    View.ld_unit_zero (S := S256x128) hz2, View.ld_unit_zero (S := S1x128) hz2, View.ld_unit_zero (S := S128x128) hz2]
  exact congrArg (fun v => k0_pay2 _ _ v) (readCov_hi _ _ _)

/-- The first point's counts: the block's counts added to what was there. -/
theorem cnt_A (hc0 : cond0_0 i) (hc1 : ¬cond0_1 i) :
    sout0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9
      = k0_pay3 (k0_pay8 x1) k0_pay6 := by
  unfold sout0_A_1
  rw [View.read_writes_junk_eq_canon]
  unfold kernelRun0_A
  dsimp only
  sl_unfold_words
  refine (View.canon_cons_unit_zero (S := S128x128) hz2 _ _ _).trans ?_
  simp only [View.readAt_eq_ld, harg1.read_unread, harg2.read_unread, harg3.read_unread, harg4.read_unread, harg5.read_unread, harg6.read_unread,
    harg7.read_unread, harg8.read_unread, harg9.read_unread, harg10.read_unread, harg12.read_unread, harg13.read_unread,
    View.ld_unit_zero (S := S10000x256) hz2, View.ld_unit_zero (S := S1x1x10000) hz3, View.ld_unit_zero (S := S10000x16) hz2,
    View.ld_unit_zero (S := S1x16) hz2, View.ld_unit_zero (S := S256x256) hz2, View.ld_unit_zero (S := S1x256) hz2,
    View.ld_unit_zero (S := S256x128) hz2, View.ld_unit_zero (S := S1x128) hz2, View.ld_unit_zero (S := S128x128) hz2]
  exact congrArg (fun v => k0_pay3 _ v) (View.readCov_unit_zero (S := S128x128) _ hz2 _ _)

/-- The last point's output: the head of what its own additions leave. -/
theorem out_C (hc0 : ¬cond0_0 i) (hc1 : cond0_1 i) :
    out0_C_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1
      = k0_pay4 (join (k0_pay1 (lo xs0) (k0_pay9 x0 x4 x5 x2 x3 x1)) (k0_pay2 (k0_pay7 x0 x4 x5) (k0_pay8 x1) (hi xs0))) (col (k0_pay3 (k0_pay8 x1) xs1)) x6 x7 x8 x9 := by
  unfold out0_C_10
  rw [View.read_writes_junk_eq_canon]
  unfold kernelRun0_C
  dsimp only
  sl_unfold_words
  refine (View.canon_cons_unit_zero (S := S128x128) hz2 _ _ _).trans ?_
  simp only [View.readAt_eq_ld, harg1.read_unread, harg2.read_unread, harg3.read_unread, harg4.read_unread, harg5.read_unread, harg6.read_unread,
    harg7.read_unread, harg8.read_unread, harg9.read_unread, harg10.read_unread, harg12.read_unread, harg13.read_unread,
    View.ld_unit_zero (S := S10000x256) hz2, View.ld_unit_zero (S := S1x1x10000) hz3, View.ld_unit_zero (S := S10000x16) hz2,
    View.ld_unit_zero (S := S1x16) hz2, View.ld_unit_zero (S := S256x256) hz2, View.ld_unit_zero (S := S1x256) hz2,
    View.ld_unit_zero (S := S256x128) hz2, View.ld_unit_zero (S := S1x128) hz2, View.ld_unit_zero (S := S128x128) hz2]
  exact congrArg₂ (fun v w => k0_pay4 v w x6 x7 x8 x9) (readCov_join _ _ _) (readCov_col _ _)

end Cert.KernelIdeal.Step
-- ==== Proof.Row.lean ====
/-
  The extended-real formulas of one row and of one group that both the kernel and its reference compute.
-/
module

public import Idealize.ShloMosaic.PureOps.Ideal
public import Idealize.ShloMosaic.Lib.IdealHost

@[expose] public section

noncomputable section

namespace Cert.Row

open Idealize.ShloMosaic

/-- Column `j` of the row `x` times the square matrix `W`, plus the bias. -/
def pre (x : Fin 256 → EReal) (W : Fin 256 → Fin 256 → EReal) (b : Fin 256 → EReal) (j : Fin 256) : EReal :=
  (∑ k, x k * W k j) + b j

/-- The gate of one entry: `h * x / (1 + exp (-h))`. -/
def gate (h x : EReal) : EReal := Ideal.div (h * x) (1 + Ideal.exp (-h))

/-- Column `j` of the gated row. -/
def gated (x : Fin 256 → EReal) (W : Fin 256 → Fin 256 → EReal) (b : Fin 256 → EReal) (j : Fin 256) : EReal :=
  gate (pre x W b j) (x j)

/-- The spectral weight of a row: its sixteen coefficients against the filter. -/
def weight (e f : Fin 16 → EReal) : EReal := ∑ k, e k * f k

/-- One when the index word `w` names group `g`, zero otherwise. -/
def hit (w : BitVec 32) (g : Fin 128) : EReal := if w = BitVec.ofNat 32 g.val then 1 else 0

/-- Column `c` of what enters the head for one group: the mean of the group's rows plus its spectral sum. -/
def pooled (spec sums : Fin 256 → EReal) (cnt : EReal) (c : Fin 256) : EReal :=
  Ideal.div (sums c) (max cnt 1) + spec c

/-- Column `d` of the two-layer head applied to the pooled row `p`. -/
def head (p : Fin 256 → EReal) (W : Fin 256 → Fin 256 → EReal) (b : Fin 256 → EReal) (W' : Fin 256 → Fin 128 → EReal)
    (b' : Fin 128 → EReal) (d : Fin 128) : EReal :=
  (∑ k, max (pre p W b k) 0 * W' k d) + b' d

/-- The spectral sum of group `g` at column `c`. -/
def spec (x : Fin 50000 → Fin 256 → EReal) (w : Fin 50000 → BitVec 32) (e : Fin 50000 → Fin 16 → EReal) (f : Fin 16 → EReal)
    (W : Fin 256 → Fin 256 → EReal) (b : Fin 256 → EReal) (g : Fin 128) (c : Fin 256) : EReal :=
  ∑ n, hit (w n) g * (gated (x n) W b c * weight (e n) f)

/-- The plain sum of group `g` at column `c`. -/
def sums (x : Fin 50000 → Fin 256 → EReal) (w : Fin 50000 → BitVec 32) (W : Fin 256 → Fin 256 → EReal) (b : Fin 256 → EReal)
    (g : Fin 128) (c : Fin 256) : EReal :=
  ∑ n, hit (w n) g * gated (x n) W b c

/-- How many rows group `g` has. -/
def count (w : Fin 50000 → BitVec 32) (g : Fin 128) : EReal := ∑ n, hit (w n) g

/-- The ideal exponential is never negative. -/
theorem exp_nonneg (x : EReal) : 0 ≤ Ideal.exp x := by
  induction x with
  | bot => exact le_refl _
  | top => exact le_top
  | coe r => exact EReal.coe_nonneg.2 (Real.exp_pos r).le

/-- The gate's denominator is never zero. -/
theorem denom_ne_zero (x : EReal) : 1 + Ideal.exp x ≠ 0 :=
  (lt_of_lt_of_le zero_lt_one (le_add_of_nonneg_right (exp_nonneg x))).ne'

/-- The gate, with the negation written as a difference from zero. -/
theorem div_gate_sub (h x : EReal) : Ideal.div (h * x) (1 + Ideal.exp (0 - h)) = gate h x := by
  rw [sub_eq_add_neg, zero_add]
  rfl

/-- The gate, as the product with the logistic function written as a quotient. -/
theorem mul_logistic (h x : EReal) : h * Ideal.div 1 (1 + Ideal.exp (-h)) * x = gate h x := by
  unfold gate Ideal.div
  rw [if_neg (denom_ne_zero _), if_neg (denom_ne_zero _), one_mul, mul_right_comm]

end Cert.Row
-- ==== Proof.Entry.lean ====
/-
  The kernel's stored values read at an index, over the extended reals.
-/
module

public import proofs.«01_k».proof.Proof.Gen.KernelIdeal.Skeleton
public import proofs.«01_k».proof.Proof.Row
public import Idealize.ShloMosaic.Lib.Pointwise

@[expose] public section

set_option maxRecDepth 16384

noncomputable section

namespace Cert.KernelIdeal.Entry

open Cert.KernelIdeal Cert.KernelIdeal.Gen Idealize.ShloMosaic Cert.Row

/-- A gated row block, at an entry. -/
theorem pay7_apply (x : Vec Ideal S10000x256 .f32) (W : Vec Ideal S256x256 .f32) (b : Vec Ideal S1x256 .f32) (r : Fin 10000) (c : Fin 256) :
    k0_pay7 x W b (ix2 r c) = gated (fun k => x (ix2 r k)) (fun k j => W (ix2 k j)) (fun j => b (ix2 0 j)) c := by
  pointwise [k0_pay7]
  exact div_gate_sub _ _

/-- The one-hot block, at an entry. -/
theorem pay8_apply (w : Vec Ideal S1x1x10000 .i32) (g : Fin 128) (n : Fin 10000) :
    k0_pay8 (F := Ideal) w (ix2 g n) = hit (w (ix3 0 0 n)) g := by
  pointwise [k0_pay8]
  have e : ∀ b : BitVec 32, FloatOps.sitofp (F := Ideal) .f32 b = ((b.toInt : ℝ) : EReal) := fun _ => rfl
  rw [e]
  unfold hit
  by_cases h : w (ix3 0 0 n) = BitVec.ofNat 32 g.val
  · simp [IntOp.cmpi, h]
  · simp [IntOp.cmpi, h, beq_eq_false_iff_ne.2 h]

/-- The spectral product of a block, at an entry. -/
theorem pay9_apply (x : Vec Ideal S10000x256 .f32) (W : Vec Ideal S256x256 .f32) (b : Vec Ideal S1x256 .f32) (e : Vec Ideal S10000x16 .f32)
    (f : Vec Ideal S1x16 .f32) (w : Vec Ideal S1x1x10000 .i32) (g : Fin 128) (c : Fin 256) :
    k0_pay9 x W b e f w (ix2 g c) = ∑ n : Fin 10000, hit (w (ix3 0 0 n)) g *
      (gated (fun k => x (ix2 n k)) (fun k j => W (ix2 k j)) (fun j => b (ix2 0 j)) c * weight (fun k => e (ix2 n k)) (fun k => f (ix2 0 k))) := by
  pointwise [k0_pay9]
  simp only [pay8_apply, pay7_apply]
  rfl

/-- The spectral half's new value, at an entry. -/
theorem pay1_apply (v p : FVec Ideal S128x256 .f32) (i : S128x256.Idx) : k0_pay1 v p i = v i + p i := by
  pointwise [k0_pay1]

/-- The plain half's new value, at an entry. -/
theorem pay2_apply (y : FVec Ideal S10000x256 .f32) (o : FVec Ideal S128x10000 .f32) (v : Vec Ideal S128x256 .f32) (g : Fin 128) (c : Fin 256) :
    k0_pay2 y o v (ix2 g c) = v (ix2 g c) + ∑ n : Fin 10000, o (ix2 g n) * y (ix2 n c) := by
  pointwise [k0_pay2]

/-- The counts' new value, at an entry. -/
theorem pay3_apply (o : FVec Ideal S128x10000 .f32) (v : Vec Ideal S128x128 .f32) (g c : Fin 128) :
    k0_pay3 o v (ix2 g c) = v (ix2 g c) + ∑ n : Fin 10000, o (ix2 g n) := by
  pointwise [k0_pay3]

/-- The reset of the wide scratch is zero everywhere. -/
theorem pay5_apply (i : S128x512.Idx) : k0_pay5 (F := Ideal) i = 0 := by
  pointwise [k0_pay5]

/-- The reset of the counts is zero everywhere. -/
theorem pay6_apply (i : S128x128.Idx) : k0_pay6 (F := Ideal) i = 0 := by
  pointwise [k0_pay6]

/-- The head of the accumulated sums, at an entry. -/
theorem pay4_apply (a : Vec Ideal S128x512 .f32) (n : Vec Ideal S128x1 .f32) (W : Vec Ideal S256x256 .f32) (b : Vec Ideal S1x256 .f32)
    (W' : Vec Ideal S256x128 .f32) (b' : Vec Ideal S1x128 .f32) (g d : Fin 128) :
    k0_pay4 a n W b W' b' (ix2 g d) =
      head (pooled (fun c => extractStridedSlice S128x256 ![0, 0] a slices_S128x512_o0_0_S128x256 (ix2 g c))
          (fun c => extractStridedSlice S128x256 ![0, 256] a slices_S128x512_o0_256_S128x256 (ix2 g c)) (n (ix2 g 0)))
        (fun k j => W (ix2 k j)) (fun j => b (ix2 0 j)) (fun k j => W' (ix2 k j)) (fun j => b' (ix2 0 j)) d := by
  pointwise [k0_pay4]
  rfl

end Cert.KernelIdeal.Entry
-- ==== Proof.Blocks.lean ====
/-
  Each input block of a grid point, read at an index, as an entry of the argument it comes from.
-/
module

public import proofs.«01_k».proof.Proof.Gen.KernelIdeal.Frame
public import Idealize.ShloMosaic.Lib.Pipeline.Value
public import Idealize.ShloMosaic.Lib.StableHlo.ReadAt
public import Idealize.ShloMosaic.Lib.Pointwise

@[expose] public section

set_option maxRecDepth 16384

noncomputable section

namespace Cert.KernelIdeal.Blocks

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (c : Dev nD)

/-- The reshaped index words as the region finds them: place `n` of plane `t` is word `10000 t + n` of the argument. -/
theorem V_words (t : Fin 5) (n : Fin 10000) :
    (V m c main_call0_v0 : Vec F S5x1x10000 .i32) (ix3 t 0 n)
      = (m ((c : Thread nD τ).loc main_arg1) : Vec F S50000 .i32) (ix1 ⟨t.val * 10000 + n.val, by omega⟩) := by
  unfold V
  after_reads_at

/-- The filter reshaped to one row keeps its entries. -/
theorem V_filter (k : Fin 16) :
    (V m c main_call0_v1 : Vec F S1x16 .f32) (ix2 0 k) = (m ((c : Thread nD τ).loc main_arg3) : Vec F S16 .f32) (ix1 k) := by
  unfold V
  after_reads_at

/-- The gate bias reshaped to one row keeps its entries. -/
theorem V_bias (k : Fin 256) :
    (V m c main_call0_v2 : Vec F S1x256 .f32) (ix2 0 k) = (m ((c : Thread nD τ).loc main_arg5) : Vec F S256 .f32) (ix1 k) := by
  unfold V
  after_reads_at

/-- The head's first bias reshaped to one row keeps its entries. -/
theorem V_bias1 (k : Fin 256) :
    (V m c main_call0_v3 : Vec F S1x256 .f32) (ix2 0 k) = (m ((c : Thread nD τ).loc main_arg7) : Vec F S256 .f32) (ix1 k) := by
  unfold V
  after_reads_at

/-- The head's second bias reshaped to one row keeps its entries. -/
theorem V_bias2 (k : Fin 128) :
    (V m c main_call0_v4 : Vec F S1x128 .f32) (ix2 0 k) = (m ((c : Thread nD τ).loc main_arg9) : Vec F S128 .f32) (ix1 k) := by
  unfold V
  after_reads_at

/-- The index maps of the windows that move, at every point. -/
theorem index_moving : ∀ t : Fin grid0.N,
    (win0_0.index t 0 = t.val ∧ win0_0.index t 1 = 0) ∧ (win0_1.index t 0 = t.val ∧ win0_1.index t 1 = 0 ∧ win0_1.index t 2 = 0)
      ∧ (win0_2.index t 0 = t.val ∧ win0_2.index t 1 = 0) := by decide +kernel

/-- The index maps of the windows that stay, at every point. -/
theorem index_fixed : ∀ t : Fin grid0.N,
    (win0_3.index t 0 = 0 ∧ win0_3.index t 1 = 0) ∧ (win0_4.index t 0 = 0 ∧ win0_4.index t 1 = 0) ∧ (win0_5.index t 0 = 0 ∧ win0_5.index t 1 = 0)
      ∧ (win0_6.index t 0 = 0 ∧ win0_6.index t 1 = 0) ∧ (win0_7.index t 0 = 0 ∧ win0_7.index t 1 = 0)
      ∧ (win0_8.index t 0 = 0 ∧ win0_8.index t 1 = 0) ∧ (win0_9.index t 0 = 0 ∧ win0_9.index t 1 = 0) := by decide +kernel

/-- Every point's number is below five. -/
theorem point_lt (t : Fin cfg0.N) : t.val < 5 := lt_of_lt_of_eq t.isLt N_0

/-- Row `r` of the block of rows at point `t` is row `10000 t + r` of the argument. -/
theorem rows_block (t : Fin cfg0.N) (r : Fin 10000) (k : Fin 256) :
    (iblk m c 0 t : Vec F S10000x256 .f32) (ix2 r k)
      = (m ((c : Thread nD τ).loc main_arg0) : Vec F S50000x256 .f32) (ix2 ⟨t.val * 10000 + r.val, by have := point_lt t; omega⟩ k) := by
  obtain ⟨h0, h1⟩ := (index_moving t).1
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 10000 + 1 * r.val = t.val * 10000 + r.val; rw [h0]; omega
  | ⟨1, _⟩ => show win0_0.index t 1 * 256 + 1 * k.val = k.val; rw [h1]; omega

/-- Word `n` of the block of index words at point `t` is word `10000 t + n` of the argument. -/
theorem words_block (t : Fin cfg0.N) (n : Fin 10000) :
    (iblk m c 1 t : Vec F S1x1x10000 .i32) (ix3 0 0 n)
      = (m ((c : Thread nD τ).loc main_arg1) : Vec F S50000 .i32) (ix1 ⟨t.val * 10000 + n.val, by have := point_lt t; omega⟩) := by
  obtain ⟨h0, h1, h2⟩ := (index_moving t).2.1
  refine Eq.trans ?_ (V_words m c ⟨t.val, point_lt t⟩ n)
  unfold iblk
  rw [View.read_apply]
  show V m c main_call0_v0 _ = V m c main_call0_v0 _
  refine congrArg (V m c main_call0_v0) (funext fun a => Fin.ext ?_)
  match a with
  | ⟨0, _⟩ => show win0_1.index t 0 * 1 + 1 * 0 = t.val; rw [h0]; omega
  | ⟨1, _⟩ => show win0_1.index t 1 * 1 + 1 * 0 = 0; rw [h1]
  | ⟨2, _⟩ => show win0_1.index t 2 * 10000 + 1 * n.val = n.val; rw [h2]; omega

/-- Row `r` of the block of coefficients at point `t` is row `10000 t + r` of the argument. -/
theorem coeffs_block (t : Fin cfg0.N) (r : Fin 10000) (k : Fin 16) :
    (iblk m c 2 t : Vec F S10000x16 .f32) (ix2 r k)
      = (m ((c : Thread nD τ).loc main_arg2) : Vec F S50000x16 .f32) (ix2 ⟨t.val * 10000 + r.val, by have := point_lt t; omega⟩ k) := by
  obtain ⟨h0, h1⟩ := (index_moving t).2.2
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 10000 + 1 * r.val = t.val * 10000 + r.val; rw [h0]; omega
  | ⟨1, _⟩ => show win0_2.index t 1 * 16 + 1 * k.val = k.val; rw [h1]; omega

/-- The filter's block holds the filter at every point. -/
theorem filter_block (t : Fin cfg0.N) (k : Fin 16) :
    (iblk m c 3 t : Vec F S1x16 .f32) (ix2 0 k) = (m ((c : Thread nD τ).loc main_arg3) : Vec F S16 .f32) (ix1 k) := by
  obtain ⟨h0, h1⟩ := (index_fixed t).1
  refine Eq.trans ?_ (V_filter m c k)
  unfold iblk
  rw [View.read_apply]
  show V m c main_call0_v1 _ = V m c main_call0_v1 _
  refine congrArg (V m c main_call0_v1) (funext fun a => Fin.ext ?_)
  match a with
  | ⟨0, _⟩ => show win0_3.index t 0 * 1 + 1 * 0 = 0; rw [h0]
  | ⟨1, _⟩ => show win0_3.index t 1 * 16 + 1 * k.val = k.val; rw [h1]; omega

/-- The gate matrix's block is the argument. -/
theorem gate_block (t : Fin cfg0.N) :
    (iblk m c 4 t : Vec F S256x256 .f32) = (m ((c : Thread nD τ).loc main_arg4) : Vec F S256x256 .f32) := by
  obtain ⟨h0, h1⟩ := (index_fixed t).2.1
  funext j
  unfold iblk
  rw [View.read_apply]
  show V m c main_arg4 _ = _
  rw [V_main_arg4]
  refine congrArg (m ((c : Thread nD τ).loc main_arg4)) (funext fun a => Fin.ext ?_)
  match a with
  | ⟨0, _⟩ => show win0_4.index t 0 * 256 + 1 * (j 0).val = (j 0).val; rw [h0]; omega
  | ⟨1, _⟩ => show win0_4.index t 1 * 256 + 1 * (j 1).val = (j 1).val; rw [h1]; omega

/-- The gate bias's block holds the bias at every point. -/
theorem bias_block (t : Fin cfg0.N) (k : Fin 256) :
    (iblk m c 5 t : Vec F S1x256 .f32) (ix2 0 k) = (m ((c : Thread nD τ).loc main_arg5) : Vec F S256 .f32) (ix1 k) := by
  obtain ⟨h0, h1⟩ := (index_fixed t).2.2.1
  refine Eq.trans ?_ (V_bias m c k)
  unfold iblk
  rw [View.read_apply]
  show V m c main_call0_v2 _ = V m c main_call0_v2 _
  refine congrArg (V m c main_call0_v2) (funext fun a => Fin.ext ?_)
  match a with
  | ⟨0, _⟩ => show win0_5.index t 0 * 1 + 1 * 0 = 0; rw [h0]
  | ⟨1, _⟩ => show win0_5.index t 1 * 256 + 1 * k.val = k.val; rw [h1]; omega

/-- The head's first matrix's block is the argument. -/
theorem head_block (t : Fin cfg0.N) :
    (iblk m c 6 t : Vec F S256x256 .f32) = (m ((c : Thread nD τ).loc main_arg6) : Vec F S256x256 .f32) := by
  obtain ⟨h0, h1⟩ := (index_fixed t).2.2.2.1
  funext j
  unfold iblk
  rw [View.read_apply]
  show V m c main_arg6 _ = _
  rw [V_main_arg6]
  refine congrArg (m ((c : Thread nD τ).loc main_arg6)) (funext fun a => Fin.ext ?_)
  match a with
  | ⟨0, _⟩ => show win0_6.index t 0 * 256 + 1 * (j 0).val = (j 0).val; rw [h0]; omega
  | ⟨1, _⟩ => show win0_6.index t 1 * 256 + 1 * (j 1).val = (j 1).val; rw [h1]; omega

/-- The block of the head's first bias holds it at every point. -/
theorem bias1_block (t : Fin cfg0.N) (k : Fin 256) :
    (iblk m c 7 t : Vec F S1x256 .f32) (ix2 0 k) = (m ((c : Thread nD τ).loc main_arg7) : Vec F S256 .f32) (ix1 k) := by
  obtain ⟨h0, h1⟩ := (index_fixed t).2.2.2.2.1
  refine Eq.trans ?_ (V_bias1 m c k)
  unfold iblk
  rw [View.read_apply]
  show V m c main_call0_v3 _ = V m c main_call0_v3 _
  refine congrArg (V m c main_call0_v3) (funext fun a => Fin.ext ?_)
  match a with
  | ⟨0, _⟩ => show win0_7.index t 0 * 1 + 1 * 0 = 0; rw [h0]
  | ⟨1, _⟩ => show win0_7.index t 1 * 256 + 1 * k.val = k.val; rw [h1]; omega

/-- The head's second matrix's block is the argument. -/
theorem head2_block (t : Fin cfg0.N) :
    (iblk m c 8 t : Vec F S256x128 .f32) = (m ((c : Thread nD τ).loc main_arg8) : Vec F S256x128 .f32) := by
  obtain ⟨h0, h1⟩ := (index_fixed t).2.2.2.2.2.1
  funext j
  unfold iblk
  rw [View.read_apply]
  show V m c main_arg8 _ = _
  rw [V_main_arg8]
  refine congrArg (m ((c : Thread nD τ).loc main_arg8)) (funext fun a => Fin.ext ?_)
  match a with
  | ⟨0, _⟩ => show win0_8.index t 0 * 256 + 1 * (j 0).val = (j 0).val; rw [h0]; omega
  | ⟨1, _⟩ => show win0_8.index t 1 * 128 + 1 * (j 1).val = (j 1).val; rw [h1]; omega

/-- The block of the head's second bias holds it at every point. -/
theorem bias2_block (t : Fin cfg0.N) (k : Fin 128) :
    (iblk m c 9 t : Vec F S1x128 .f32) (ix2 0 k) = (m ((c : Thread nD τ).loc main_arg9) : Vec F S128 .f32) (ix1 k) := by
  obtain ⟨h0, h1⟩ := (index_fixed t).2.2.2.2.2.2
  refine Eq.trans ?_ (V_bias2 m c k)
  unfold iblk
  rw [View.read_apply]
  show V m c main_call0_v4 _ = V m c main_call0_v4 _
  refine congrArg (V m c main_call0_v4) (funext fun a => Fin.ext ?_)
  match a with
  | ⟨0, _⟩ => show win0_9.index t 0 * 1 + 1 * 0 = 0; rw [h0]
  | ⟨1, _⟩ => show win0_9.index t 1 * 128 + 1 * k.val = k.val; rw [h1]; omega

end Cert.KernelIdeal.Blocks
-- ==== Proof.Fold.lean ====
/-
  The kernel's result as the same function of the arguments that the reference computes: the two scratch buffers after each
  point hold the sums over the blocks met so far, and the last point applies the head to the sums over all rows.
-/
module

public import proofs.«01_k».proof.Proof.Step
public import proofs.«01_k».proof.Proof.Entry
public import proofs.«01_k».proof.Proof.Blocks
public import proofs.«01_k».proof.Proof.Gen.KernelIdeal.Value

@[expose] public section

set_option maxRecDepth 16384

noncomputable section

namespace Cert.KernelIdeal.Fold

open Cert.KernelIdeal Cert.KernelIdeal.Gen Cert.KernelIdeal.Entry Cert.KernelIdeal.Blocks Cert.KernelIdeal.Step Cert.Row
open Idealize.ShloMosaic Idealize.ShloMosaic.TcCoe Idealize.SL.Sem

/-! ## Sums over the rows, block by block -/

/-- The sum of a term over the rows of block `s`. -/
def part (f : Fin 50000 → EReal) (s : Fin 5) : EReal := ∑ r : Fin 10000, f ⟨s.val * 10000 + r.val, by omega⟩

/-- The sum of a term over the rows of the blocks up to block `n`. -/
def upto (f : Fin 50000 → EReal) : (n : ℕ) → n < 5 → EReal
  | 0, h => 0 + part f ⟨0, h⟩
  | n + 1, h => upto f n (Nat.lt_of_succ_lt h) + part f ⟨n + 1, h⟩

/-- Up to the last block the sum is over all rows. -/
theorem upto_last (f : Fin 50000 → EReal) (h : 4 < 5) : upto f 4 h = ∑ n : Fin 50000, f n := by
  rw [Fin.sum_univ_tiles 5 10000 rfl f, Fin.sum_univ_five]
  show 0 + part f 0 + part f 1 + part f 2 + part f 3 + part f 4 = _
  rw [zero_add]
  rfl

variable (m : (ℓ : Loc nD τ sig) → Buf (Elt Ideal) ℓ) (c : Dev nD)

/-- The row of the first argument. -/
abbrev xs (n : Fin 50000) (k : Fin 256) : EReal := (m ((c : Thread nD τ).loc main_arg0) : Vec Ideal S50000x256 .f32) (ix2 n k)
/-- The index word. -/
abbrev ws (n : Fin 50000) : BitVec 32 := (m ((c : Thread nD τ).loc main_arg1) : Vec Ideal S50000 .i32) (ix1 n)
/-- The coefficients. -/
abbrev es (n : Fin 50000) (k : Fin 16) : EReal := (m ((c : Thread nD τ).loc main_arg2) : Vec Ideal S50000x16 .f32) (ix2 n k)
/-- The filter. -/
abbrev fs (k : Fin 16) : EReal := (m ((c : Thread nD τ).loc main_arg3) : Vec Ideal S16 .f32) (ix1 k)
/-- The gate matrix. -/
abbrev Ws (k j : Fin 256) : EReal := (m ((c : Thread nD τ).loc main_arg4) : Vec Ideal S256x256 .f32) (ix2 k j)
/-- The gate bias. -/
abbrev bs (j : Fin 256) : EReal := (m ((c : Thread nD τ).loc main_arg5) : Vec Ideal S256 .f32) (ix1 j)
/-- The head's first matrix. -/
abbrev W1s (k j : Fin 256) : EReal := (m ((c : Thread nD τ).loc main_arg6) : Vec Ideal S256x256 .f32) (ix2 k j)
/-- The head's first bias. -/
abbrev b1s (j : Fin 256) : EReal := (m ((c : Thread nD τ).loc main_arg7) : Vec Ideal S256 .f32) (ix1 j)
/-- The head's second matrix. -/
abbrev W2s (k : Fin 256) (j : Fin 128) : EReal := (m ((c : Thread nD τ).loc main_arg8) : Vec Ideal S256x128 .f32) (ix2 k j)
/-- The head's second bias. -/
abbrev b2s (j : Fin 128) : EReal := (m ((c : Thread nD τ).loc main_arg9) : Vec Ideal S128 .f32) (ix1 j)

/-- A row's term of the spectral sum. -/
def specTerm (g : Fin 128) (d : Fin 256) (n : Fin 50000) : EReal :=
  hit (ws m c n) g * (gated (xs m c n) (Ws m c) (bs m c) d * weight (es m c n) (fs m c))

/-- A row's term of the plain sum. -/
def sumTerm (g : Fin 128) (d : Fin 256) (n : Fin 50000) : EReal := hit (ws m c n) g * gated (xs m c n) (Ws m c) (bs m c) d

/-- A row's term of the count. -/
def countTerm (g : Fin 128) (n : Fin 50000) : EReal := hit (ws m c n) g

/-! ## What one block adds -/

/-- The spectral product of block `t`. -/
theorem spec_part (t : Fin cfg0.N) (g : Fin 128) (d : Fin 256) :
    k0_pay9 (F := Ideal) (iblk m c 0 t) (iblk m c 4 t) (iblk m c 5 t) (iblk m c 2 t) (iblk m c 3 t) (iblk m c 1 t) (ix2 g d)
      = part (specTerm m c g d) ⟨t.val, point_lt t⟩ := by
  refine (pay9_apply _ _ _ _ _ _ g d).trans (Finset.sum_congr rfl fun n _ => ?_)
  rw [words_block m c t n, gate_block m c t]
  simp only [rows_block m c t, bias_block m c t, coeffs_block m c t, filter_block m c t]
  rfl

/-- The gated rows of block `t`. -/
theorem gated_part (t : Fin cfg0.N) (n : Fin 10000) (d : Fin 256) :
    k0_pay7 (F := Ideal) (iblk m c 0 t) (iblk m c 4 t) (iblk m c 5 t) (ix2 n d)
      = gated (xs m c ⟨t.val * 10000 + n.val, by have := point_lt t; omega⟩) (Ws m c) (bs m c) d := by
  refine (pay7_apply _ _ _ n d).trans ?_
  rw [gate_block m c t]
  simp only [rows_block m c t, bias_block m c t]

/-- The one-hot rows of block `t`. -/
theorem hit_part (t : Fin cfg0.N) (n : Fin 10000) (g : Fin 128) :
    k0_pay8 (F := Ideal) (iblk m c 1 t) (ix2 g n) = hit (ws m c ⟨t.val * 10000 + n.val, by have := point_lt t; omega⟩) g := by
  refine (pay8_apply _ g n).trans ?_
  rw [words_block m c t n]

/-- The plain product of block `t`, added to what was there. -/
theorem sum_part (t : Fin cfg0.N) (v : Vec Ideal S128x256 .f32) (g : Fin 128) (d : Fin 256) :
    k0_pay2 (F := Ideal) (k0_pay7 (iblk m c 0 t) (iblk m c 4 t) (iblk m c 5 t)) (k0_pay8 (iblk m c 1 t)) v (ix2 g d)
      = v (ix2 g d) + part (sumTerm m c g d) ⟨t.val, point_lt t⟩ := by
  refine (pay2_apply _ _ v g d).trans (congrArg (v (ix2 g d) + ·) (Finset.sum_congr rfl fun n _ => ?_))
  exact congrArg₂ (· * ·) (hit_part m c t n g) (gated_part m c t n d)

/-- The counts of block `t`, added to what was there. -/
theorem count_part (t : Fin cfg0.N) (v : Vec Ideal S128x128 .f32) (g d : Fin 128) :
    k0_pay3 (F := Ideal) (k0_pay8 (iblk m c 1 t)) v (ix2 g d) = v (ix2 g d) + part (countTerm m c g) ⟨t.val, point_lt t⟩ := by
  refine (pay3_apply _ v g d).trans (congrArg (v (ix2 g d) + ·) (Finset.sum_congr rfl fun n _ => ?_))
  exact hit_part m c t n g

/-! ## The scratch after each point before the last -/

/-- After point `n` before the last, the scratch holds the sums over the blocks up to `n`. -/
def Holds (n : ℕ) (h : n < 5) (X : Vec Ideal S128x512 .f32) (Y : Vec Ideal S128x128 .f32) : Prop :=
  (∀ g d, lo X (ix2 g d) = upto (specTerm m c g d) n h) ∧ (∀ g d, hi X (ix2 g d) = upto (sumTerm m c g d) n h)
    ∧ (∀ g d : Fin 128, Y (ix2 g d) = upto (countTerm m c g) n h)

/-- The first point starts the sums from zero. -/
theorem holds_zero (h : 0 < cfg0.N) (h5 : 0 < 5) : Holds m c 0 h5 (outsAt0 m c 0 h).2.1 (outsAt0 m c 0 h).2.2 := by
  have e := outsAt0_A m c ⟨0, h⟩ (Nat.zero_mod _) (by show ¬0 % 5 = 4; decide)
  have e1 := congrArg (fun p => p.2.1) e
  have e2 := congrArg (fun p => p.2.2) e
  dsimp only at e1 e2
  refine ⟨fun g d => ?_, fun g d => ?_, fun g d => ?_⟩
  · rw [e1, lo_A, pay1_apply]
    exact congrArg₂ (· + ·) (pay5_apply _) (spec_part m c ⟨0, h⟩ g d)
  · rw [e1, hi_A]
    exact (sum_part m c ⟨0, h⟩ _ g d).trans (congrArg (· + _) (pay5_apply _))
  · rw [e2, cnt_A]
    exact (count_part m c ⟨0, h⟩ _ g d).trans (congrArg (· + _) (pay6_apply _))

/-- A middle point adds its block. -/
theorem holds_succ (n : ℕ) (h : n + 1 < cfg0.N) (h5 : n + 1 < 5) (h4 : n + 1 < 4)
    (ih : Holds m c n (Nat.lt_of_succ_lt h5) (outsAt0 m c n (Nat.lt_of_succ_lt h)).2.1 (outsAt0 m c n (Nat.lt_of_succ_lt h)).2.2) :
    Holds m c (n + 1) h5 (outsAt0 m c (n + 1) h).2.1 (outsAt0 m c (n + 1) h).2.2 := by
  have e := outsAt0_B m c ⟨n + 1, h⟩ (by show ¬(n + 1) % 5 = 0; omega) (by show ¬(n + 1) % 5 = 4; omega)
  have e1 := congrArg (fun p => p.2.1) e
  have e2 := congrArg (fun p => p.2.2) e
  dsimp only at e1 e2
  obtain ⟨i1, i2, i3⟩ := ih
  refine ⟨fun g d => ?_, fun g d => ?_, fun g d => ?_⟩
  · rw [e1, lo_B, pay1_apply]
    exact congrArg₂ (· + ·) (i1 g d) (spec_part m c ⟨n + 1, h⟩ g d)
  · rw [e1, hi_B]
    exact (sum_part m c ⟨n + 1, h⟩ _ g d).trans (congrArg (· + _) (i2 g d))
  · rw [e2, cnt_B]
    exact (count_part m c ⟨n + 1, h⟩ _ g d).trans (congrArg (· + _) (i3 g d))

/-- At every point before the last the scratch holds the sums so far. -/
theorem holds (n : ℕ) (h : n < cfg0.N) (h5 : n < 5) (h4 : n < 4) : Holds m c n h5 (outsAt0 m c n h).2.1 (outsAt0 m c n h).2.2 := by
  induction n with
  | zero => exact holds_zero m c h h5
  | succ n ih => exact holds_succ m c n h h5 h4 (ih _ _ (Nat.lt_of_succ_lt h4))

/-! ## The result -/

/-- The left slice of two joined halves is the left half. -/
theorem slice_lo (p q : Vec Ideal S128x256 .f32) :
    extractStridedSlice S128x256 ![0, 0] (join p q) slices_S128x512_o0_0_S128x256 = p := by
  refine Eq.trans ?_ (lo_canon q p [])
  exact (View.ld_unit (join p q) ![0, 0] S128x256.size inb_S128x512_S128x256_0_0).symm

/-- The right slice of two joined halves is the right half. -/
theorem slice_hi (p q : Vec Ideal S128x256 .f32) :
    extractStridedSlice S128x256 ![0, 256] (join p q) slices_S128x512_o0_256_S128x256 = q := by
  refine Eq.trans ?_ (hi_canon q [⟨rlo, p⟩])
  exact (View.ld_unit (join p q) ![0, 256] S128x256.size inb_S128x512_S128x256_0_256).symm

/-- The first column of the counts, at an entry. -/
theorem col_apply (X : Vec Ideal S128x128 .f32) (g : Fin 128) : col X (ix2 g 0) = X (ix2 g 0) := by
  refine congrArg X (funext fun a => Fin.ext ?_)
  match a with
  | ⟨0, _⟩ => show 0 + 1 * g.val = g.val; omega
  | ⟨1, _⟩ => rfl

/-- The spectral sums the last point reads back: its own block added to the sums before it. -/
abbrev lastSpec (t : Fin cfg0.N) : Vec Ideal S128x256 .f32 :=
  k0_pay1 (lo (outsAt0 m c (t.val - 1) (Nat.lt_of_le_of_lt (Nat.sub_le _ _) t.isLt)).2.1)
    (k0_pay9 (iblk m c 0 t) (iblk m c 4 t) (iblk m c 5 t) (iblk m c 2 t) (iblk m c 3 t) (iblk m c 1 t))

/-- The plain sums the last point reads back. -/
abbrev lastSum (t : Fin cfg0.N) : Vec Ideal S128x256 .f32 :=
  k0_pay2 (k0_pay7 (iblk m c 0 t) (iblk m c 4 t) (iblk m c 5 t)) (k0_pay8 (iblk m c 1 t))
    (hi (outsAt0 m c (t.val - 1) (Nat.lt_of_le_of_lt (Nat.sub_le _ _) t.isLt)).2.1)

/-- The counts the last point reads back. -/
abbrev lastCount (t : Fin cfg0.N) : Vec Ideal S128x128 .f32 :=
  k0_pay3 (k0_pay8 (iblk m c 1 t)) (outsAt0 m c (t.val - 1) (Nat.lt_of_le_of_lt (Nat.sub_le _ _) t.isLt)).2.2

/-- What the last point leaves in the output: the head of the sums it reads back. -/
theorem last_out (t : Fin cfg0.N) (h0 : ¬t.val % 5 = 0) (h1 : t.val % 5 = 4) :
    (outsAt0 m c t.val t.isLt).1 = k0_pay4 (join (lastSpec m c t) (lastSum m c t)) (col (lastCount m c t))
      (iblk m c 6 t) (iblk m c 7 t) (iblk m c 8 t) (iblk m c 9 t) := by
  have e1 := congrArg (fun p => p.1) (outsAt0_C m c t h0 h1)
  dsimp only at e1
  rw [e1, out_C]

/-- What the last point leaves in the output, at an entry: the head of the pooled sums it reads back. -/
theorem last_apply (t : Fin cfg0.N) (h0 : ¬t.val % 5 = 0) (h1 : t.val % 5 = 4) (g d : Fin 128) :
    (outsAt0 m c t.val t.isLt).1 (ix2 g d)
      = head (pooled (fun k => lastSpec m c t (ix2 g k)) (fun k => lastSum m c t (ix2 g k)) (lastCount m c t (ix2 g 0)))
          (W1s m c) (b1s m c) (W2s m c) (b2s m c) d := by
  rw [last_out m c t h0 h1]
  refine (pay4_apply _ _ _ _ _ _ g d).trans ?_
  rw [slice_lo, slice_hi, col_apply, head_block m c t, head2_block m c t]
  simp only [bias1_block m c t, bias2_block m c t]

/-- If the scratch before a point holds the sums so far, the spectral sums it reads back are those with its block added. -/
theorem lastSpec_apply (n : ℕ) (h : n + 1 < cfg0.N) (h5 : n + 1 < 5)
    (ih : Holds m c n (Nat.lt_of_succ_lt h5) (outsAt0 m c n (Nat.lt_of_succ_lt h)).2.1 (outsAt0 m c n (Nat.lt_of_succ_lt h)).2.2)
    (g : Fin 128) (k : Fin 256) : lastSpec m c ⟨n + 1, h⟩ (ix2 g k) = upto (specTerm m c g k) (n + 1) h5 :=
  (pay1_apply _ _ _).trans (congrArg₂ (· + ·) (ih.1 g k) (spec_part m c ⟨n + 1, h⟩ g k))

/-- The same for the plain sums. -/
theorem lastSum_apply (n : ℕ) (h : n + 1 < cfg0.N) (h5 : n + 1 < 5)
    (ih : Holds m c n (Nat.lt_of_succ_lt h5) (outsAt0 m c n (Nat.lt_of_succ_lt h)).2.1 (outsAt0 m c n (Nat.lt_of_succ_lt h)).2.2)
    (g : Fin 128) (k : Fin 256) : lastSum m c ⟨n + 1, h⟩ (ix2 g k) = upto (sumTerm m c g k) (n + 1) h5 :=
  (sum_part m c ⟨n + 1, h⟩ _ g k).trans (congrArg (· + _) (ih.2.1 g k))

/-- The same for the counts. -/
theorem lastCount_apply (n : ℕ) (h : n + 1 < cfg0.N) (h5 : n + 1 < 5)
    (ih : Holds m c n (Nat.lt_of_succ_lt h5) (outsAt0 m c n (Nat.lt_of_succ_lt h)).2.1 (outsAt0 m c n (Nat.lt_of_succ_lt h)).2.2)
    (g d : Fin 128) : lastCount m c ⟨n + 1, h⟩ (ix2 g d) = upto (countTerm m c g) (n + 1) h5 :=
  (count_part m c ⟨n + 1, h⟩ _ g d).trans (congrArg (· + _) (ih.2.2 g d))

/-- What the last point leaves in the output, at an entry, by the sums over all the blocks. -/
theorem last_upto (n : ℕ) (h : n + 1 < cfg0.N) (h5 : n + 1 < 5) (h3 : n = 3) (g d : Fin 128) :
    (outsAt0 m c (n + 1) h).1 (ix2 g d)
      = head (pooled (fun k => upto (specTerm m c g k) (n + 1) h5) (fun k => upto (sumTerm m c g k) (n + 1) h5) (upto (countTerm m c g) (n + 1) h5))
          (W1s m c) (b1s m c) (W2s m c) (b2s m c) d := by
  have ih := holds m c n (Nat.lt_of_succ_lt h) (Nat.lt_of_succ_lt h5) (by omega)
  refine (last_apply m c ⟨n + 1, h⟩ (by show ¬(n + 1) % 5 = 0; omega) (by show (n + 1) % 5 = 4; omega) g d).trans ?_
  rw [funext (lastSpec_apply m c n h h5 ih g), funext (lastSum_apply m c n h h5 ih g), lastCount_apply m c n h h5 ih g 0]

/-- The result the kernel's run leaves, at an entry: the head of the pooled sums over all rows. -/
theorem result_apply (g d : Fin 128) :
    (Value.G10 m c : Vec Ideal S128x128 .f32) (ix2 g d)
      = head (pooled (spec (xs m c) (ws m c) (es m c) (fs m c) (Ws m c) (bs m c) g) (sums (xs m c) (ws m c) (Ws m c) (bs m c) g)
          (count (ws m c) g)) (W1s m c) (b1s m c) (W2s m c) (b2s m c) d := by
  rw [Value.G10_last m c, ← Value.outsAt0_sweep m c 4 (lt_of_lt_of_eq (by decide) N_0.symm)]
  refine (last_upto m c 3 _ (by decide) rfl g d).trans ?_
  have e : ∀ f : Fin 50000 → EReal, upto f (3 + 1) (by decide) = ∑ n : Fin 50000, f n := fun f => upto_last f (by decide)
  simp only [e]
  rfl

end Cert.KernelIdeal.Fold
-- ==== Proof.Scatter.lean ====
/-
  The reference's two accumulating scatters read at an index, over the extended reals.
-/
module

public import proofs.«01_k».proof.Proof.Gen.ReferenceIdeal.Run
public import proofs.«01_k».proof.Proof.Row
public import Idealize.ShloMosaic.Lib.Pointwise
public import Idealize.ShloMosaic.Lib.Routing.OpsPair

@[expose] public section

set_option maxRecDepth 16384

noncomputable section

namespace Cert.ReferenceIdeal.Scatter

open Cert.ReferenceIdeal Cert.ReferenceIdeal.Gen Idealize.ShloMosaic Cert.Row

/-- A word read signed is the group's number exactly when it is that number's word. -/
theorem toInt_eq_iff (w : BitVec 32) (g : Fin 128) : w.toInt = (g.val : Int) ↔ w = BitVec.ofNat 32 g.val := by
  have hg := g.isLt
  have e : (BitVec.ofNat 32 g.val).toInt = (g.val : Int) := by
    rw [BitVec.toInt_eq_toNat_cond, BitVec.toNat_ofNat, Nat.mod_eq_of_lt (by omega), if_pos (by omega)]
  constructor
  · intro h
    exact BitVec.eq_of_toInt_eq (h.trans e.symm)
  · rintro rfl
    exact e

/-- A term kept only where its index word names the group. -/
theorem hit_mul (w : BitVec 32) (g : Fin 128) (u : EReal) : hit w g * u = if w.toInt = (g.val : Int) then u else 0 := by
  unfold hit
  by_cases h : w = BitVec.ofNat 32 g.val
  · rw [if_pos h, if_pos ((toInt_eq_iff w g).2 h), one_mul]
  · rw [if_neg h, if_neg (fun k => h ((toInt_eq_iff w g).1 k)), zero_mul]

/-- Where row update `(n, c')` lands. -/
theorem rows_lands (idx : IVec S50000x1 32) (n : Fin 50000) (c' : Fin 256) (g : Fin 128) (c : Fin 256) :
    scatter_S128x256_S50000x1_S50000x256_1_0_0_1.resultIdx? (ix2 n c') idx = some (ix2 g c)
      ↔ (idx (ix2 n 0)).toInt = (g.val : Int) ∧ c' = c := by
  rw [Routing.resultIdx?_eq_some]
  have s0 : scatter_S128x256_S50000x1_S50000x256_1_0_0_1.start (ix2 n c') idx (0 : Fin 2) = (idx (ix2 n 0)).toInt := by
    refine (dif_pos (List.mem_singleton.2 rfl)).trans (congrArg (fun i => (idx i).toInt) (funext fun b => ?_))
    match b with
    | ⟨0, _⟩ => rfl
    | ⟨1, _⟩ => rfl
  have s1 : scatter_S128x256_S50000x1_S50000x256_1_0_0_1.start (ix2 n c') idx (1 : Fin 2) = 0 := rfl
  have w0 : scatter_S128x256_S50000x1_S50000x256_1_0_0_1.window (ix2 n c') (0 : Fin 2) = 0 := rfl
  have w1 : scatter_S128x256_S50000x1_S50000x256_1_0_0_1.window (ix2 n c') (1 : Fin 2) = c'.val := rfl
  constructor
  · intro h
    have h0 := h (0 : Fin 2)
    have h1 := h (1 : Fin 2)
    rw [s0, w0] at h0
    rw [s1, w1] at h1
    refine ⟨?_, Fin.ext ?_⟩
    · simpa using h0
    · have : ((0 : Int) + (c'.val : Int)) = (c.val : Int) := h1
      omega
  · rintro ⟨h, rfl⟩ a
    match a with
    | ⟨0, _⟩ => exact (congrArg₂ (fun (p : Int) (q : Nat) => p + (q : Int)) s0 w0).trans (by simpa using h)
    | ⟨1, _⟩ => exact (congrArg₂ (fun (p : Int) (q : Nat) => p + (q : Int)) s1 w1).trans (by simp)

/-- The row scatter at an entry: the sum of the update rows whose word names the group. -/
theorem rows_apply (z : FVec Ideal S128x256 .f32) (idx : IVec S50000x1 32) (u : FVec Ideal S50000x256 .f32) (g : Fin 128) (c : Fin 256) :
    Host.scatterAdd scatter_S128x256_S50000x1_S50000x256_1_0_0_1 z idx u (ix2 g c)
      = z (ix2 g c) + ∑ n : Fin 50000, hit (idx (ix2 n 0)) g * u (ix2 n c) := by
  refine congrArg (z (ix2 g c) + ·) ?_
  simp only [hit_mul, ← Finset.sum_filter]
  refine Finset.sum_nbij' (fun j => j 0) (fun n => ix2 n c) ?_ ?_ ?_ ?_ ?_
  · intro j hj
    idx_vars j
    exact Finset.mem_filter.2 ⟨Finset.mem_univ _, ((rows_lands idx _ _ g c).1 (Finset.mem_filter.1 hj).2).1⟩
  · intro n hn
    exact Finset.mem_filter.2 ⟨Finset.mem_univ _, (rows_lands idx n c g c).2 ⟨(Finset.mem_filter.1 hn).2, rfl⟩⟩
  · intro j hj
    idx_vars j
    rw [← ((rows_lands idx _ _ g c).1 (Finset.mem_filter.1 hj).2).2]
  · intro n hn
    rfl
  · intro j hj
    idx_vars j
    rw [← ((rows_lands idx _ _ g c).1 (Finset.mem_filter.1 hj).2).2]

/-- Where unit update `n` lands. -/
theorem ones_lands (idx : IVec S50000x1 32) (n : Fin 50000) (g : Fin 128) :
    scatter_S128_S50000x1_S50000_n_0_0_1.resultIdx? (ix1 n) idx = some (ix1 g) ↔ (idx (ix2 n 0)).toInt = (g.val : Int) := by
  rw [Routing.resultIdx?_eq_some]
  have s0 : scatter_S128_S50000x1_S50000_n_0_0_1.start (ix1 n) idx (0 : Fin 1) = (idx (ix2 n 0)).toInt := by
    refine (dif_pos (List.mem_singleton.2 rfl)).trans (congrArg (fun i => (idx i).toInt) (funext fun b => ?_))
    match b with
    | ⟨0, _⟩ => rfl
    | ⟨1, _⟩ => rfl
  have w0 : scatter_S128_S50000x1_S50000_n_0_0_1.window (ix1 n) (0 : Fin 1) = 0 := rfl
  constructor
  · intro h
    have h0 := h (0 : Fin 1)
    rw [s0, w0] at h0
    simpa using h0
  · intro h a
    match a with
    | ⟨0, _⟩ => exact (congrArg₂ (fun (p : Int) (q : Nat) => p + (q : Int)) s0 w0).trans (by simpa using h)

/-- The counting scatter at an entry: the sum of the updates whose word names the group. -/
theorem ones_apply (z : FVec Ideal S128 .f32) (idx : IVec S50000x1 32) (u : FVec Ideal S50000 .f32) (g : Fin 128) :
    Host.scatterAdd scatter_S128_S50000x1_S50000_n_0_0_1 z idx u (ix1 g)
      = z (ix1 g) + ∑ n : Fin 50000, hit (idx (ix2 n 0)) g * u (ix1 n) := by
  refine congrArg (z (ix1 g) + ·) ?_
  simp only [hit_mul, ← Finset.sum_filter]
  refine Finset.sum_nbij' (fun j => j 0) (fun n => ix1 n) ?_ ?_ ?_ ?_ ?_
  · intro j hj
    idx_vars j
    exact Finset.mem_filter.2 ⟨Finset.mem_univ _, (ones_lands idx _ g).1 (Finset.mem_filter.1 hj).2⟩
  · intro n hn
    exact Finset.mem_filter.2 ⟨Finset.mem_univ _, (ones_lands idx n g).2 (Finset.mem_filter.1 hn).2⟩
  · intro j hj
    idx_vars j
  · intro n hn
    rfl
  · intro j hj
    idx_vars j

end Cert.ReferenceIdeal.Scatter
-- ==== Proof.Ref.lean ====
/-
  The reference's result read at an index: the head of the three segment sums.
-/
module

public import proofs.«01_k».proof.Proof.Scatter

@[expose] public section

set_option maxRecDepth 16384

noncomputable section

namespace Cert.ReferenceIdeal.Ref

open Cert.ReferenceIdeal Cert.ReferenceIdeal.Gen Idealize.ShloMosaic Idealize.ShloMosaic.TcCoe Idealize.SL.Sem Cert.Row Cert.ReferenceIdeal.Scatter

/-- The reference's result array as a function of its ten arguments. -/
def out (x : FVec Ideal S50000x256 .f32) (w : IVec S50000 32) (e : FVec Ideal S50000x16 .f32) (f : FVec Ideal S16 .f32)
    (W : FVec Ideal S256x256 .f32) (b : FVec Ideal S256 .f32) (W1 : FVec Ideal S256x256 .f32) (b1 : FVec Ideal S256 .f32)
    (W2 : FVec Ideal S256x128 .f32) (b2 : FVec Ideal S128 .f32) (j : S128x128.Idx) : EReal :=
  head (pooled
      (spec (fun n k => x (ix2 n k)) (fun n => w (ix1 n)) (fun n k => e (ix2 n k)) (fun k => f (ix1 k)) (fun k c => W (ix2 k c)) (fun c => b (ix1 c)) (j 0))
      (sums (fun n k => x (ix2 n k)) (fun n => w (ix1 n)) (fun k c => W (ix2 k c)) (fun c => b (ix1 c)) (j 0))
      (count (fun n => w (ix1 n)) (j 0)))
    (fun k c => W1 (ix2 k c)) (fun c => b1 (ix1 c)) (fun k c => W2 (ix2 k c)) (fun c => b2 (ix1 c)) (j 1)

/-- Every run of the reference ends with its result at `out` of the arguments, the arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33) = out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ⟨(h c).1.trans ?_, (h c).2⟩) (Value.run (F := Ideal) m ρ)
  generalize m ((c.tc : Thread nD τ).loc main_arg0) = x
  generalize m ((c.tc : Thread nD τ).loc main_arg1) = w
  generalize m ((c.tc : Thread nD τ).loc main_arg2) = e
  generalize m ((c.tc : Thread nD τ).loc main_arg3) = f
  generalize m ((c.tc : Thread nD τ).loc main_arg4) = W
  generalize m ((c.tc : Thread nD τ).loc main_arg5) = b
  generalize m ((c.tc : Thread nD τ).loc main_arg6) = W1
  generalize m ((c.tc : Thread nD τ).loc main_arg7) = b1
  generalize m ((c.tc : Thread nD τ).loc main_arg8) = W2
  generalize m ((c.tc : Thread nD τ).loc main_arg9) = b2
  funext j
  idx_vars j
  pointwise
  simp only [rows_apply, ones_apply, id_eq]
  pointwise
  simp only [mul_logistic, max_comm (1 : EReal)]
  rfl

end Cert.ReferenceIdeal.Ref
-- ==== Proof.lean ====
/-
  The proof of the certificate's claim. The two frame claims of the kernel are its generated frames, the reference's is its
  generated run weakened. The equality of values puts the kernel's result (`Fold`) beside the reference's (`Ref`).
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Fold
public import proofs.«01_k».proof.Proof.Ref
public import Idealize.ShloMosaic.Adequacy
public import Idealize.ShloMosaic.Init
public import Idealize.ShloMosaic.Lib.Quiescent
public import Idealize.ShloMosaic.Lib.Pointwise

@[expose] public section

noncomputable section

namespace Cert.Proof

open Idealize.ShloMosaic Idealize.SL.Sem

/-- The reference runs to its end, leaves its arguments as they were and its counters at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments the kernel and the reference end with equal results. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩) (Cert.ReferenceIdeal.Ref.run_out m' ρ')
  simp only [hagree c]
  funext j
  idx_vars j
  exact (Cert.KernelIdeal.Fold.result_apply m c _ _).symm

/-- The whole claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
